-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fractions [hPre_fractions : Cert.Pre_fractions.Facts] (m : (ℓ : Loc Cert.KernelIdeal.nD Cert.KernelIdeal.τ Cert.KernelIdeal.sig) → Buf (Elt Ideal) ℓ) : Prop :=
  ∀ c : Dev Cert.KernelIdeal.nD,
    (Cert.Pre_fractions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fractions [hPre_fractions : Cert.Pre_fractions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fractions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fractions [hKernelIdeal : Cert.KernelIdeal.Facts] [hPre_fractions : Cert.Pre_fractions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fractions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fractions [hReferenceIdeal : Cert.ReferenceIdeal.Facts] [hPre_fractions : Cert.Pre_fractions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fractions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fractions [hKernelIdeal : Cert.KernelIdeal.Facts] [hReferenceIdeal : Cert.ReferenceIdeal.Facts] [hPre_fractions : Cert.Pre_fractions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fractions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fractions : Cert.Pre_fractions.Facts),
    quiescent_Kernel (hKernel := hKernel)
    ∧ quiescent_KernelIdeal (hKernelIdeal := hKernelIdeal)
    ∧ quiescent_KernelIdeal_pre_fractions (hKernelIdeal := hKernelIdeal) (hPre_fractions := hPre_fractions)
    ∧ quiescent_ReferenceIdeal (hReferenceIdeal := hReferenceIdeal)
    ∧ quiescent_ReferenceIdeal_pre_fractions (hReferenceIdeal := hReferenceIdeal) (hPre_fractions := hPre_fractions)
    ∧ preserves_Kernel_KernelIdeal
    ∧ algebraic_KernelIdeal_ReferenceIdeal_pre_fractions (hKernelIdeal := hKernelIdeal) (hReferenceIdeal := hReferenceIdeal) (hPre_fractions := hPre_fractions)
-- ==== Pre_fractions.lean ====
abbrev S64x12x2048x3 : Shape := ⟨4, ![64, 12, 2048, 3]⟩
abbrev S2048x32 : Shape := ⟨2, ![2048, 32]⟩
abbrev S288x32 : Shape := ⟨2, ![288, 32]⟩
abbrev S7x32 : Shape := ⟨2, ![7, 32]⟩
abbrev S64x12x2048x2 : Shape := ⟨4, ![64, 12, 2048, 2]⟩
abbrev S_ : Shape := ⟨0, ![]⟩

class Facts : Prop where
  slices_S64x12x2048x3_S64x12x2048x2_0_0_0_1 : S64x12x2048x3.Slices ![0, 0, 0, 1] S64x12x2048x2
  bcast_S_S64x12x2048x2 : S_.BroadcastsInDim S64x12x2048x2 (![] : Fin 0 → Fin S64x12x2048x2.rank)

variable [Facts]

def fn {F : FTy → Type} [FloatOps F] (main_arg0 : FVec F S64x12x2048x3 .f32) (main_arg1 : FVec F S2048x32 .f32) (main_arg2 : FVec F S288x32 .f32) (main_arg3 : FVec F S7x32 .f32) : IVec S64x12x2048x2 1 :=
  let main_v0 : FVec F S64x12x2048x2 .f32 := (extractStridedSlice S64x12x2048x2 ![0, 0, 0, 1] · slices_S64x12x2048x3_S64x12x2048x2_0_0_0_1) main_arg0
  let main_cst : FVec F S_ .f32 := constant S_ .f32 0x00000000#32
  let main_v1 : FVec F S64x12x2048x2 .f32 := broadcastInDim S64x12x2048x2 ![] bcast_S_S64x12x2048x2 main_cst
  let main_v2 : IVec S64x12x2048x2 1 := cmpf .oge main_v0 main_v1
  let main_v3 : FVec F S64x12x2048x2 .f32 := (extractStridedSlice S64x12x2048x2 ![0, 0, 0, 1] · slices_S64x12x2048x3_S64x12x2048x2_0_0_0_1) main_arg0
  let main_cst_0 : FVec F S_ .f32 := constant S_ .f32 0x3F800000#32
  let main_v4 : FVec F S64x12x2048x2 .f32 := broadcastInDim S64x12x2048x2 ![] bcast_S_S64x12x2048x2 main_cst_0
  let main_v5 : IVec S64x12x2048x2 1 := cmpf .olt main_v3 main_v4
  let main_v6 : IVec S64x12x2048x2 1 := andi main_v2 main_v5
  main_v6
-- ==== Kernel.lean ====
abbrev S64x12x2048x3 : Shape := ⟨4, ![64, 12, 2048, 3]⟩
abbrev S2048x32 : Shape := ⟨2, ![2048, 32]⟩
abbrev S288x32 : Shape := ⟨2, ![288, 32]⟩
abbrev S7x32 : Shape := ⟨2, ![7, 32]⟩
abbrev S64x12x2048x1 : Shape := ⟨4, ![64, 12, 2048, 1]⟩
abbrev S64x12x2048 : Shape := ⟨3, ![64, 12, 2048]⟩
abbrev S_ : Shape := ⟨0, ![]⟩
abbrev S64x12x1x2048 : Shape := ⟨4, ![64, 12, 1, 2048]⟩
abbrev S256x96 : Shape := ⟨2, ![256, 96]⟩
abbrev S256x32 : Shape := ⟨2, ![256, 32]⟩
abbrev S1 : Shape := ⟨1, ![1]⟩
abbrev S40x96 : Shape := ⟨2, ![40, 96]⟩
abbrev S32x32 : Shape := ⟨2, ![32, 32]⟩
abbrev S2 : Shape := ⟨1, ![2]⟩
abbrev S2048x96 : Shape := ⟨2, ![2048, 96]⟩
abbrev S64x12x2048x96 : Shape := ⟨4, ![64, 12, 2048, 96]⟩
abbrev S2x12x1x2048 : Shape := ⟨4, ![2, 12, 1, 2048]⟩
abbrev S2x12x2048x96 : Shape := ⟨4, ![2, 12, 2048, 96]⟩
abbrev S1x1x1x2048 : Shape := ⟨4, ![1, 1, 1, 2048]⟩
abbrev S2048 : Shape := ⟨1, ![2048]⟩
abbrev S2048x1 : Shape := ⟨2, ![2048, 1]⟩
abbrev S2048x256 : Shape := ⟨2, ![2048, 256]⟩
abbrev S2048x40 : Shape := ⟨2, ![2048, 40]⟩
abbrev S1x1x2048x96 : Shape := ⟨4, ![1, 1, 2048, 96]⟩

abbrev nBuf : Space → Nat
  | .hbm => 50
  | .vmem => 7
  | .smem => 0
  | _ => 0

abbrev bufTy : (tb : Table) → Fin (tcTables nBuf tb) → BufTy
  | .hbm, ⟨0, _⟩ => ⟨S64x12x2048x3, .f32⟩
  | .hbm, ⟨1, _⟩ => ⟨S2048x32, .f32⟩
  | .hbm, ⟨2, _⟩ => ⟨S288x32, .f32⟩
  | .hbm, ⟨3, _⟩ => ⟨S7x32, .f32⟩
  | .hbm, ⟨4, _⟩ => ⟨S64x12x2048x1, .f32⟩
  | .hbm, ⟨5, _⟩ => ⟨S64x12x2048, .f32⟩
  | .hbm, ⟨6, _⟩ => ⟨S_, .f32⟩
  | .hbm, ⟨7, _⟩ => ⟨S64x12x2048, .f32⟩
  | .hbm, ⟨8, _⟩ => ⟨S64x12x2048, .f32⟩
  | .hbm, ⟨9, _⟩ => ⟨S64x12x2048, .i32⟩
  | .hbm, ⟨10, _⟩ => ⟨S64x12x2048x1, .f32⟩
  | .hbm, ⟨11, _⟩ => ⟨S64x12x2048, .f32⟩
  | .hbm, ⟨12, _⟩ => ⟨S_, .f32⟩
  | .hbm, ⟨13, _⟩ => ⟨S64x12x2048, .f32⟩
  | .hbm, ⟨14, _⟩ => ⟨S64x12x2048, .f32⟩
  | .hbm, ⟨15, _⟩ => ⟨S64x12x2048, .i32⟩
  | .hbm, ⟨16, _⟩ => ⟨S_, .i32⟩
  | .hbm, ⟨17, _⟩ => ⟨S64x12x2048, .i32⟩
  | .hbm, ⟨18, _⟩ => ⟨S64x12x2048, .i32⟩
  | .hbm, ⟨19, _⟩ => ⟨S64x12x2048, .i32⟩
  | .hbm, ⟨20, _⟩ => ⟨S64x12x1x2048, .i32⟩
  | .hbm, ⟨21, _⟩ => ⟨S_, .f32⟩
  | .hbm, ⟨22, _⟩ => ⟨S256x96, .f32⟩
  | .hbm, ⟨23, _⟩ => ⟨S256x32, .f32⟩
  | .hbm, ⟨24, _⟩ => ⟨S_, .i32⟩
  | .hbm, ⟨25, _⟩ => ⟨S1, .i32⟩
  | .hbm, ⟨26, _⟩ => ⟨S256x96, .f32⟩
  | .hbm, ⟨27, _⟩ => ⟨S256x96, .bf16⟩
  | .hbm, ⟨28, _⟩ => ⟨S_, .f32⟩
  | .hbm, ⟨29, _⟩ => ⟨S40x96, .f32⟩
  | .hbm, ⟨30, _⟩ => ⟨S32x32, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S40x96, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S40x96, .f32⟩
  | .hbm, ⟨43, _⟩ => ⟨S40x96, .bf16⟩
  | .hbm, ⟨44, _⟩ => ⟨S_, .f32⟩
  | .hbm, ⟨45, _⟩ => ⟨S2048x96, .f32⟩
  | .hbm, ⟨46, _⟩ => ⟨S_, .i32⟩
  | .hbm, ⟨47, _⟩ => ⟨S1, .i32⟩
  | .hbm, ⟨48, _⟩ => ⟨S2048x96, .f32⟩
  | .hbm, ⟨49, _⟩ => ⟨S64x12x2048x96, .f32⟩
  | .local _ .vmem, ⟨0, _⟩ => ⟨S2x12x1x2048, .i32⟩
  | .local _ .vmem, ⟨1, _⟩ => ⟨S2x12x1x2048, .i32⟩
  | .local _ .vmem, ⟨2, _⟩ => ⟨S2048x96, .f32⟩
  | .local _ .vmem, ⟨3, _⟩ => ⟨S256x96, .bf16⟩
  | .local _ .vmem, ⟨4, _⟩ => ⟨S40x96, .bf16⟩
  | .local _ .vmem, ⟨5, _⟩ => ⟨S2x12x2048x96, .f32⟩
  | .local _ .vmem, ⟨6, _⟩ => ⟨S2x12x2048x96, .f32⟩
  | _, _ => ⟨S64x12x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x12x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S40x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x12x2048x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S64x12x2048x3 : Shape := ⟨4, ![64, 12, 2048, 3]⟩
abbrev S2048x32 : Shape := ⟨2, ![2048, 32]⟩
abbrev S288x32 : Shape := ⟨2, ![288, 32]⟩
abbrev S7x32 : Shape := ⟨2, ![7, 32]⟩
abbrev S64x12x2048x1 : Shape := ⟨4, ![64, 12, 2048, 1]⟩
abbrev S64x12x2048 : Shape := ⟨3, ![64, 12, 2048]⟩
abbrev S_ : Shape := ⟨0, ![]⟩
abbrev S1 : Shape := ⟨1, ![1]⟩
abbrev S1x1x1x1 : Shape := ⟨4, ![1, 1, 1, 1]⟩
abbrev S64x12x2048x32 : Shape := ⟨4, ![64, 12, 2048, 32]⟩
abbrev S64x2048x32x12 : Shape := ⟨4, ![64, 2048, 32, 12]⟩
abbrev S1x2048x32x1 : Shape := ⟨4, ![1, 2048, 32, 1]⟩
abbrev S64x2048x96x12 : Shape := ⟨4, ![64, 2048, 96, 12]⟩
abbrev S64x12x2048x96 : Shape := ⟨4, ![64, 12, 2048, 96]⟩

abbrev nBuf : Space → Nat
  | .hbm => 68
  | .vmem => 0
  | .smem => 0
  | _ => 0

abbrev bufTy : (tb : Table) → Fin (tcTables nBuf tb) → BufTy
  | .hbm, ⟨0, _⟩ => ⟨S64x12x2048x3, .f32⟩
  | .hbm, ⟨1, _⟩ => ⟨S2048x32, .f32⟩
  | .hbm, ⟨2, _⟩ => ⟨S288x32, .f32⟩
  | .hbm, ⟨3, _⟩ => ⟨S7x32, .f32⟩
  | .hbm, ⟨4, _⟩ => ⟨S64x12x2048x1, .f32⟩
  | .hbm, ⟨5, _⟩ => ⟨S64x12x2048, .f32⟩
  | .hbm, ⟨6, _⟩ => ⟨S_, .f32⟩
  | .hbm, ⟨7, _⟩ => ⟨S64x12x2048, .f32⟩
  | .hbm, ⟨8, _⟩ => ⟨S64x12x2048, .f32⟩
  | .hbm, ⟨9, _⟩ => ⟨S64x12x2048, .i32⟩
  | .hbm, ⟨10, _⟩ => ⟨S_, .i32⟩
  | .hbm, ⟨11, _⟩ => ⟨S64x12x2048, .i32⟩
  | .hbm, ⟨12, _⟩ => ⟨S64x12x2048, .i1⟩
  | .hbm, ⟨13, _⟩ => ⟨S_, .i32⟩
  | .hbm, ⟨14, _⟩ => ⟨S64x12x2048, .i32⟩
  | .hbm, ⟨15, _⟩ => ⟨S64x12x2048, .i32⟩
  | .hbm, ⟨16, _⟩ => ⟨S64x12x2048, .i32⟩
  | .hbm, ⟨17, _⟩ => ⟨S64x12x2048x1, .i32⟩
  | .hbm, ⟨18, _⟩ => ⟨S1, .i32⟩
  | .hbm, ⟨19, _⟩ => ⟨S_, .i32⟩
  | .hbm, ⟨20, _⟩ => ⟨S64x12x2048x1, .i32⟩
  | .hbm, ⟨21, _⟩ => ⟨S64x12x2048x1, .i1⟩
  | .hbm, ⟨22, _⟩ => ⟨S1x1x1x1, .i32⟩
  | .hbm, ⟨23, _⟩ => ⟨S64x12x2048x1, .i32⟩
  | .hbm, ⟨24, _⟩ => ⟨S64x12x2048x1, .i1⟩
  | .hbm, ⟨25, _⟩ => ⟨S64x12x2048x1, .i1⟩
  | .hbm, ⟨26, _⟩ => ⟨S_, .i1⟩
  | .hbm, ⟨27, _⟩ => ⟨S64x12x2048, .i1⟩
  | .hbm, ⟨28, _⟩ => ⟨S64x12x2048x32, .f32⟩
  | .hbm, ⟨29, _⟩ => ⟨S64x12x2048x32, .i1⟩
  | .hbm, ⟨30, _⟩ => ⟨S_, .f32⟩
  | .hbm, ⟨31, _⟩ => ⟨S64x12x2048x32, .f32⟩
  | .hbm, ⟨32, _⟩ => ⟨S64x12x2048x32, .f32⟩
  | .hbm, ⟨33, _⟩ => ⟨S64x2048x32x12, .f32⟩
  | .hbm, ⟨34, _⟩ => ⟨S64x12x2048x1, .f32⟩
  | .hbm, ⟨35, _⟩ => ⟨S64x12x2048, .f32⟩
  | .hbm, ⟨36, _⟩ => ⟨S_, .f32⟩
  | .hbm, ⟨37, _⟩ => ⟨S64x12x2048, .f32⟩
  | .hbm, ⟨38, _⟩ => ⟨S64x12x2048, .f32⟩
  | .hbm, ⟨39, _⟩ => ⟨S64x12x2048, .i32⟩
  | .hbm, ⟨40, _⟩ => ⟨S_, .i32⟩
  | .hbm, ⟨41, _⟩ => ⟨S64x12x2048, .i32⟩
  | .hbm, ⟨42, _⟩ => ⟨S64x12x2048, .i1⟩
  | .hbm, ⟨43, _⟩ => ⟨S_, .i32⟩
  | .hbm, ⟨44, _⟩ => ⟨S64x12x2048, .i32⟩
  | .hbm, ⟨45, _⟩ => ⟨S64x12x2048, .i32⟩
  | .hbm, ⟨46, _⟩ => ⟨S64x12x2048, .i32⟩
  | .hbm, ⟨47, _⟩ => ⟨S64x12x2048x1, .i32⟩
  | .hbm, ⟨48, _⟩ => ⟨S1, .i32⟩
  | .hbm, ⟨49, _⟩ => ⟨S_, .i32⟩
  | .hbm, ⟨50, _⟩ => ⟨S64x12x2048x1, .i32⟩
  | .hbm, ⟨51, _⟩ => ⟨S64x12x2048x1, .i1⟩
  | .hbm, ⟨52, _⟩ => ⟨S1x1x1x1, .i32⟩
  | .hbm, ⟨53, _⟩ => ⟨S64x12x2048x1, .i32⟩
  | .hbm, ⟨54, _⟩ => ⟨S64x12x2048x1, .i1⟩
  | .hbm, ⟨55, _⟩ => ⟨S64x12x2048x1, .i1⟩
  | .hbm, ⟨56, _⟩ => ⟨S_, .i1⟩
  | .hbm, ⟨57, _⟩ => ⟨S64x12x2048, .i1⟩
  | .hbm, ⟨58, _⟩ => ⟨S64x12x2048x32, .f32⟩
  | .hbm, ⟨59, _⟩ => ⟨S64x12x2048x32, .i1⟩
  | .hbm, ⟨60, _⟩ => ⟨S_, .f32⟩
  | .hbm, ⟨61, _⟩ => ⟨S64x12x2048x32, .f32⟩
  | .hbm, ⟨62, _⟩ => ⟨S64x12x2048x32, .f32⟩
  | .hbm, ⟨63, _⟩ => ⟨S64x2048x32x12, .f32⟩
  | .hbm, ⟨64, _⟩ => ⟨S1x2048x32x1, .f32⟩
  | .hbm, ⟨65, _⟩ => ⟨S64x2048x32x12, .f32⟩
  | .hbm, ⟨66, _⟩ => ⟨S64x2048x96x12, .f32⟩
  | .hbm, ⟨67, _⟩ => ⟨S64x12x2048x96, .f32⟩
  | _, _ => ⟨S64x12x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩

abbrev nD : Nat := 1
abbrev τ : Topo := Topo.v7x

variable {F : FTy → Type} [FloatOps F]
-- ==== Proof.Words.lean ====
/- Facts about 32-bit index words that the value proof rests on. -/
module

public import Idealize.ShloMosaic.Lib.Pointwise

@[expose] public section

noncomputable section

namespace Cert.Proof.Words

open Idealize.ShloMosaic

/-- A number in `[0, 1)` times `n`, rounded toward zero, is a word below `n`. -/
theorem toNat_fptosi_lt (x : EReal) (n : ℕ) (h0 : 0 ≤ x) (h1 : x < 1) (hp : 0 < n) (hn : n < 2 ^ 31) :
    (Ideal.fptosi 32 (x * ((n : ℝ) : EReal))).toNat < n := by
  induction x with
  | bot => simp at h0
  | top => simp at h1
  | coe r =>
    have hr0 : 0 ≤ r := by exact_mod_cast h0
    have hr1 : r < 1 := by exact_mod_cast h1
    have hn' : (0 : ℝ) < n := by exact_mod_cast hp
    have hz0 : 0 ≤ ⌊r * n⌋ := Int.floor_nonneg.2 (by positivity)
    have hz1 : ⌊r * n⌋ < (n : ℤ) := Int.floor_lt.2 (by push_cast; nlinarith)
    rw [← EReal.coe_mul]
    unfold Ideal.fptosi Ideal.toIntClamped
    have hp0 : (0 : ℝ) ≤ r * n := by positivity
    show (BitVec.ofInt 32 (max _ (min _ (if 0 ≤ r * (n : ℝ) then ⌊r * n⌋ else ⌈r * n⌉)))).toNat < n
    rw [if_pos hp0]
    generalize ⌊r * n⌋ = z at hz0 hz1
    rw [BitVec.toNat_ofInt]
    omega

/-- A time word below 288 plus a day word shifted left by nine: the low nine bits are the time word. -/
theorem low_bits (t d : BitVec 32) (ht : t.toNat < 288) (hd : d.toNat < 7) : (t + d <<< 9) &&& 511#32 = t := by
  apply BitVec.eq_of_toNat_eq
  rw [BitVec.toNat_and, show (511#32).toNat = 2 ^ 9 - 1 from rfl, Nat.and_two_pow_sub_one_eq_mod, BitVec.toNat_add,
    BitVec.toNat_shiftLeft, Nat.shiftLeft_eq]
  omega

/-- The same word shifted right by nine is the day word. -/
theorem high_bits (t d : BitVec 32) (ht : t.toNat < 288) (hd : d.toNat < 7) : (t + d <<< 9) >>> 9 = d := by
  apply BitVec.eq_of_toNat_eq
  rw [BitVec.toNat_ushiftRight, BitVec.toNat_add, BitVec.toNat_shiftLeft, Nat.shiftLeft_eq, Nat.shiftRight_eq_div_pow]
  omega

/-- A test bit widened and read as a number is one where the test holds and zero where it does not. -/
theorem hot (b : BitVec 1) :
    (FloatOps.sitofp .f32 (BitVec.setWidth 32 b) : Ideal .f32) = if b = 1#1 then (1 : EReal) else 0 := by
  show (((BitVec.setWidth 32 b).toInt : ℝ) : EReal) = _
  rcases BitVec.eq_zero_or_eq_one b with rfl | rfl <;> simp

/-- An equality test's bit is set exactly when the words are equal. -/
theorem test_iff (a b : BitVec 32) : IntOp.cmpi .eq a b = 1#1 ↔ a = b := by
  show BitVec.ofBool (a == b) = 1#1 ↔ a = b
  by_cases h : a = b
  · subst h; simp
  · rw [show (a == b) = false from beq_eq_false_iff_ne.2 h]; simp [h]

/-- The «or» of two bits is set exactly when one of them is. -/
theorem or_iff (a b : BitVec 1) : IntOp.ori a b = 1#1 ↔ a = 1#1 ∨ b = 1#1 := by
  rcases BitVec.eq_zero_or_eq_one a with rfl | rfl <;> rcases BitVec.eq_zero_or_eq_one b with rfl | rfl <;> decide

/-- A sum in which only the term at position `c` survives. -/
theorem sum_at {K : ℕ} (c : ℕ) (hc : c < K) (f : Fin K → EReal) : (∑ x : Fin K, if x.val = c then f x else 0) = f ⟨c, hc⟩ := by
  rw [Finset.sum_eq_single (⟨c, hc⟩ : Fin K)]
  · exact if_pos rfl
  · intro b _ hb
    exact if_neg fun h => hb (Fin.ext h)
  · intro h
    exact absurd (Finset.mem_univ _) h

/-- The row picked by one test per position against a time word below 288: the row at that position if there is one. -/
theorem sum_first (t : BitVec 32) (f : Fin 256 → EReal) :
    (∑ x : Fin 256, (FloatOps.sitofp .f32 (BitVec.setWidth 32 (IntOp.cmpi .eq t (BitVec.ofNat 32 x.val))) : Ideal .f32) * f x)
      = if h : t.toNat < 256 then f ⟨t.toNat, h⟩ else 0 := by
  have e : ∀ x : Fin 256, (FloatOps.sitofp .f32 (BitVec.setWidth 32 (IntOp.cmpi .eq t (BitVec.ofNat 32 x.val))) : Ideal .f32) * f x
      = if x.val = t.toNat then f x else 0 := by
    intro x
    have hi : (IntOp.cmpi .eq t (BitVec.ofNat 32 x.val) = 1#1) ↔ x.val = t.toNat := by
      rw [test_iff, ← BitVec.toNat_inj, BitVec.toNat_ofNat]
      omega
    rw [hot]
    simp only [hi]
    split <;> simp
  simp only [e]
  split
  · next h => exact sum_at _ h f
  · next h => exact Finset.sum_eq_zero fun x _ => if_neg (by omega)

/-- The rows picked by two tests per position, one against a time word past 256 and one against a day word past 32:
    the two rows never coincide, so the sum is their sum. -/
theorem sum_second (t d : BitVec 32) (ht : t.toNat < 288) (hd : d.toNat < 7) (f : Fin 40 → EReal) :
    (∑ x : Fin 40, (FloatOps.sitofp .f32 (BitVec.setWidth 32
        (IntOp.ori (IntOp.cmpi .eq t (IntOp.addi (BitVec.ofNat 32 x.val) 256#32))
          (IntOp.cmpi .eq d (IntOp.subi (BitVec.ofNat 32 x.val) 32#32)))) : Ideal .f32) * f x)
      = (if h : 256 ≤ t.toNat then f ⟨t.toNat - 256, by omega⟩ else 0) + f ⟨d.toNat + 32, by omega⟩ := by
  have e : ∀ x : Fin 40, (FloatOps.sitofp .f32 (BitVec.setWidth 32
        (IntOp.ori (IntOp.cmpi .eq t (IntOp.addi (BitVec.ofNat 32 x.val) 256#32))
          (IntOp.cmpi .eq d (IntOp.subi (BitVec.ofNat 32 x.val) 32#32)))) : Ideal .f32) * f x
      = (if x.val + 256 = t.toNat then f x else 0) + (if x.val = d.toNat + 32 then f x else 0) := by
    intro x
    have h1 : (t = BitVec.ofNat 32 x.val + 256#32) ↔ x.val + 256 = t.toNat := by
      rw [← BitVec.toNat_inj, BitVec.toNat_add, BitVec.toNat_ofNat, BitVec.toNat_ofNat]; omega
    have h2 : (d = BitVec.ofNat 32 x.val - 32#32) ↔ x.val = d.toNat + 32 := by
      rw [← BitVec.toNat_inj, BitVec.toNat_sub, BitVec.toNat_ofNat, BitVec.toNat_ofNat]; omega
    have hi : (IntOp.ori (IntOp.cmpi .eq t (IntOp.addi (BitVec.ofNat 32 x.val) 256#32))
        (IntOp.cmpi .eq d (IntOp.subi (BitVec.ofNat 32 x.val) 32#32)) = 1#1)
        ↔ (x.val + 256 = t.toNat ∨ x.val = d.toNat + 32) := by
      rw [or_iff, test_iff, test_iff, ← h1, ← h2]
      exact Iff.rfl
    rw [hot]
    simp only [hi]
    by_cases a : x.val + 256 = t.toNat
    · rw [if_pos (Or.inl a), if_pos a, if_neg (by omega), one_mul, add_zero]
    · by_cases b : x.val = d.toNat + 32
      · rw [if_pos (Or.inr b), if_neg a, if_pos b, one_mul, zero_add]
      · rw [if_neg (by tauto), if_neg a, if_neg b, zero_mul, zero_add]
  simp only [e]
  rw [Finset.sum_add_distrib, sum_at (d.toNat + 32) (by omega) f]
  congr 1
  split
  · next h =>
    rw [← sum_at (t.toNat - 256) (by omega) f]
    refine Finset.sum_congr rfl fun x _ => ?_
    have : (x.val + 256 = t.toNat) ↔ x.val = t.toNat - 256 := by omega
    simp only [this]
  · next h => exact Finset.sum_eq_zero fun x _ => if_neg (by omega)

end Cert.Proof.Words

end
-- ==== Proof.Spec.lean ====
/- The array the program is meant to compute, element by element, and the three padded tables the kernel reads. -/
module

public import Idealize.ShloMosaic.Lib.Pointwise

@[expose] public section

noncomputable section

namespace Cert.Proof.Spec

open Idealize.ShloMosaic

/-- Column `e` of one output row: the day's row of the day table, then the time's row of the time table, then the
    node's row of the node table, 32 columns each. -/
def outRow (node : (⟨2, ![2048, 32]⟩ : Shape).Idx → EReal) (tod : (⟨2, ![288, 32]⟩ : Shape).Idx → EReal)
    (dow : (⟨2, ![7, 32]⟩ : Shape).Idx → EReal) (t d : BitVec 32) (n : Fin 2048) (e : Fin 96) : EReal :=
  if h : e.val < 32 then dow (ix2 (Fin.ofNat 7 d.toNat) ⟨e.val, h⟩)
  else if h' : e.val < 64 then tod (ix2 (Fin.ofNat 288 t.toNat) ⟨e.val - 32, by omega⟩)
  else node (ix2 n ⟨e.val - 64, by omega⟩)

/-- The first 256 rows of the time table, at columns 32 to 63 of a table of 96 columns, zero elsewhere. -/
def tableA (tod : (⟨2, ![288, 32]⟩ : Shape).Idx → EReal) (k : Fin 256) (e : Fin 96) : EReal :=
  if h : 32 ≤ e.val ∧ e.val < 64 then tod (ix2 ⟨k.val, by omega⟩ ⟨e.val - 32, by omega⟩) else 0

/-- The last 32 rows of the time table at rows 0 to 31 and columns 32 to 63, the day table at rows 32 to 38 and
    columns 0 to 31, zero elsewhere. -/
def tableB (tod : (⟨2, ![288, 32]⟩ : Shape).Idx → EReal) (dow : (⟨2, ![7, 32]⟩ : Shape).Idx → EReal)
    (k : Fin 40) (e : Fin 96) : EReal :=
  if h : (32 ≤ k.val ∧ k.val < 39) ∧ e.val < 32 then dow (ix2 ⟨k.val - 32, by omega⟩ ⟨e.val, h.2⟩)
  else if h' : k.val < 32 ∧ (32 ≤ e.val ∧ e.val < 64) then tod (ix2 ⟨256 + k.val, by omega⟩ ⟨e.val - 32, by omega⟩)
  else 0

/-- The node table at columns 64 to 95 of a table of 96 columns, zero elsewhere. -/
def tableN (node : (⟨2, ![2048, 32]⟩ : Shape).Idx → EReal) (n : Fin 2048) (e : Fin 96) : EReal :=
  if h : 64 ≤ e.val then node (ix2 n ⟨e.val - 64, by omega⟩) else 0

/-- The table index a number stands for: the number times the constant whose pattern is `c`, rounded toward zero. -/
def word (c : BitVec 32) (x : EReal) : BitVec 32 := Ideal.fptosi 32 (x * Ideal.ofBits .f32 c)

/-- The whole output array: at each batch, step and node, the output row of the two indices read from `x`. -/
def out (x : (⟨4, ![64, 12, 2048, 3]⟩ : Shape).Idx → EReal) (node : (⟨2, ![2048, 32]⟩ : Shape).Idx → EReal)
    (tod : (⟨2, ![288, 32]⟩ : Shape).Idx → EReal) (dow : (⟨2, ![7, 32]⟩ : Shape).Idx → EReal)
    (i : (⟨4, ![64, 12, 2048, 96]⟩ : Shape).Idx) : EReal :=
  outRow node tod dow (word 0x43900000#32 (x (ix4 (i 0) (i 1) (i 2) 1))) (word 0x40E00000#32 (x (ix4 (i 0) (i 1) (i 2) 2)))
    (i 2) (i 3)

/-- Channels 1 and 2 of the input are fractions: at least zero, below one. -/
def Frac (x : (⟨4, ![64, 12, 2048, 3]⟩ : Shape).Idx → EReal) : Prop :=
  ∀ b r n, (0 ≤ x (ix4 b r n 1) ∧ x (ix4 b r n 1) < 1) ∧ 0 ≤ x (ix4 b r n 2) ∧ x (ix4 b r n 2) < 1

end Cert.Proof.Spec

end
-- ==== Proof.Row.lean ====
/- One row of the kernel body: what each of its 24 stores writes, element by element. -/
module

public import proofs.«01_k».proof.Proof.Gen.KernelIdeal.Value
public import proofs.«01_k».proof.Proof.Words
public import proofs.«01_k».proof.Proof.Spec
public import Idealize.ShloMosaic.Lib.Pipeline.ValueKit

@[expose] public section

set_option maxRecDepth 16384

noncomputable section

namespace Cert.Proof.Row

open Cert.KernelIdeal Cert.KernelIdeal.Gen Idealize.ShloMosaic Idealize.ShloMosaic.TcCoe Idealize.SL.Sem
open Cert.Proof.Spec

/-- Shifting right by nine, in range, is the plain shift. -/
theorem shrui_nine (w : BitVec 32) : IntOp.shrui .vector w 9#32 = w >>> 9 := by
  unfold IntOp.shrui
  rw [if_pos (by decide)]
  rfl

/-- The two products and the node table, added up at column `e`, give the output row's column `e`. -/
theorem tables_sum (node : (⟨2, ![2048, 32]⟩ : Shape).Idx → EReal) (tod : (⟨2, ![288, 32]⟩ : Shape).Idx → EReal)
    (dow : (⟨2, ![7, 32]⟩ : Shape).Idx → EReal) (t d : BitVec 32) (ht : t.toNat < 288) (hd : d.toNat < 7)
    (n : Fin 2048) (e : Fin 96) :
    (if h : t.toNat < 256 then tableA tod ⟨t.toNat, h⟩ e else 0)
      + ((if h : 256 ≤ t.toNat then tableB tod dow ⟨t.toNat - 256, by omega⟩ e else 0)
        + tableB tod dow ⟨d.toNat + 32, by omega⟩ e) + tableN node n e = outRow node tod dow t d n e := by
  have et : (Fin.ofNat 288 t.toNat) = ⟨t.toNat, ht⟩ := Fin.ext (Nat.mod_eq_of_lt ht)
  have ed : (Fin.ofNat 7 d.toNat) = ⟨d.toNat, hd⟩ := Fin.ext (Nat.mod_eq_of_lt hd)
  unfold tableA tableB tableN outRow
  rw [et, ed]
  dsimp only
  split_ifs <;> first
    | omega
    | (simp only [add_zero, zero_add]; done)
    | (simp only [add_zero, zero_add]; congr 2; done)
    | (simp only [add_zero, zero_add]; congr 2; apply Fin.ext; dsimp only; omega)

/-- What one store of the body writes, for the packed index words, the two padded tables and the padded node table. -/
theorem row_apply (p : Vec Ideal S1x1x1x2048 .i32) (ta : Vec Ideal S256x96 .bf16) (tb : Vec Ideal S40x96 .bf16)
    (nd : Vec Ideal S2048x96 .f32) (node : (⟨2, ![2048, 32]⟩ : Shape).Idx → EReal)
    (tod : (⟨2, ![288, 32]⟩ : Shape).Idx → EReal) (dow : (⟨2, ![7, 32]⟩ : Shape).Idx → EReal)
    (n : Fin 2048) (e : Fin 96) (t d : BitVec 32) (ht : t.toNat < 288) (hd : d.toNat < 7)
    (hp : p (ix4 0 0 0 n) = t + d <<< 9) (ha : ∀ k, ta (ix2 k e) = tableA tod k e)
    (hb : ∀ k, tb (ix2 k e) = tableB tod dow k e) (hn : nd (ix2 n e) = tableN node n e) :
    k0_pay3 (k0_pay2 p ta tb nd) (ix4 0 0 n e) = outRow node tod dow t d n e := by
  pointwise [k0_pay3, k0_pay2]
  rw [hp, hn, shrui_nine, Words.high_bits t d ht hd, show IntOp.andi (t + d <<< 9) 511#32 = t from Words.low_bits t d ht hd]
  simp only [ha, hb]
  rw [Words.sum_first t (fun k => tableA tod k e), Words.sum_second t d ht hd (fun k => tableB tod dow k e)]
  exact tables_sum node tod dow t d ht hd n e

end Cert.Proof.Row
end
-- ==== Proof.Block.lean ====
/- What the kernel body leaves in one output block, from the blocks it reads. -/
module

public import proofs.«01_k».proof.Proof.Row

@[expose] public section

set_option maxRecDepth 16384

noncomputable section

namespace Cert.Proof.Block

open Cert.KernelIdeal Cert.KernelIdeal.Gen Idealize.ShloMosaic Idealize.ShloMosaic.TcCoe Idealize.SL.Sem
open Cert.Proof.Spec

/-- The output block named by its two index words at each batch, step and node of the block. -/
def blockOut (node : (⟨2, ![2048, 32]⟩ : Shape).Idx → EReal) (tod : (⟨2, ![288, 32]⟩ : Shape).Idx → EReal)
    (dow : (⟨2, ![7, 32]⟩ : Shape).Idx → EReal) (T D : Fin 2 → Fin 12 → Fin 2048 → BitVec 32) (y : S2x12x2048x96.Idx) : EReal :=
  outRow node tod dow (T (y 0) (y 1) (y 2)) (D (y 0) (y 1) (y 2)) (y 2) (y 3)

variable (x0 : Vec Ideal S2x12x1x2048 .i32) (x1 : Vec Ideal S2048x96 .f32) (x2 : Vec Ideal S256x96 .bf16)
  (x3 : Vec Ideal S40x96 .bf16) (node : (⟨2, ![2048, 32]⟩ : Shape).Idx → EReal)
  (tod : (⟨2, ![288, 32]⟩ : Shape).Idx → EReal) (dow : (⟨2, ![7, 32]⟩ : Shape).Idx → EReal)
  (T D : Fin 2 → Fin 12 → Fin 2048 → BitVec 32)

/-- The store of batch `b` and step `r` writes its part of the output block. -/
theorem piece (hT : ∀ b r n, (T b r n).toNat < 288) (hD : ∀ b r n, (D b r n).toNat < 7)
    (h0 : ∀ b r n, x0 (ix4 b r 0 n) = T b r n + D b r n <<< 9) (h1 : ∀ n e, x1 (ix2 n e) = tableN node n e)
    (h2 : ∀ k e, x2 (ix2 k e) = tableA tod k e) (h3 : ∀ k e, x3 (ix2 k e) = tableB tod dow k e)
    (b : Fin 2) (r : Fin 12) (inb : ∀ a, (![b.val, r.val, 0, 0] : Fin 4 → ℕ) a + S1x1x1x2048.size a ≤ S2x12x1x2048.size a)
    (inb' : ∀ a, (![b.val, r.val, 0, 0] : Fin 4 → ℕ) a + S1x1x2048x96.size a ≤ S2x12x2048x96.size a) (y : S1x1x2048x96.Idx) :
    k0_pay3 (k0_pay2 (View.ld x0 (Rect.unit (s := S2x12x1x2048) ![b.val, r.val, 0, 0] S1x1x1x2048.size inb))
      (View.ld x2 r0_1) (View.ld x3 r0_2) (View.ld x1 r0_3)) y
      = blockOut node tod dow T D ((Rect.unit (s := S2x12x2048x96) ![b.val, r.val, 0, 0] S1x1x2048x96.size inb').emb y) := by
  have z : (![0, 0] : Fin 2 → ℕ) = fun _ => 0 := funext fun a => by fin_cases a <;> rfl
  obtain ⟨n, e, rfl⟩ : ∃ (n : Fin 2048) (e : Fin 96), y = ix4 0 0 n e :=
    ⟨y 2, y 3, by rw [eq_ix4 y]; congr 1 <;> exact Subsingleton.elim _ _⟩
  have hy : (Rect.unit (s := S2x12x2048x96) ![b.val, r.val, 0, 0] S1x1x2048x96.size inb').emb (ix4 0 0 n e) = ix4 b r n e := by
    funext a; apply Fin.ext
    match a with
    | ⟨0, _⟩ => show b.val + 1 * 0 = b.val; omega
    | ⟨1, _⟩ => show r.val + 1 * 0 = r.val; omega
    | ⟨2, _⟩ => show 0 + 1 * n.val = n.val; omega
    | ⟨3, _⟩ => show 0 + 1 * e.val = e.val; omega
  have hl : View.ld x0 (Rect.unit (s := S2x12x1x2048) ![b.val, r.val, 0, 0] S1x1x1x2048.size inb) (ix4 0 0 0 n) = x0 (ix4 b r 0 n) := by
    refine congrArg x0 ?_
    funext a; apply Fin.ext
    match a with
    | ⟨0, _⟩ => show b.val + 1 * 0 = b.val; omega
    | ⟨1, _⟩ => show r.val + 1 * 0 = r.val; omega
    | ⟨2, _⟩ => show 0 + 1 * 0 = 0; omega
    | ⟨3, _⟩ => show 0 + 1 * n.val = n.val; omega
  rw [hy, View.ld_unit_zero z, View.ld_unit_zero z, View.ld_unit_zero z]
  exact Row.row_apply _ x2 x3 x1 node tod dow n e (T b r n) (D b r n) (hT b r n) (hD b r n) (hl.trans (h0 b r n))
    (fun k => h2 k e) (fun k => h3 k e) (h1 n e)

/-- The row of index words of batch `b` and step `r` lies in the block of index words. -/
theorem inb_words (b : Fin 2) (r : Fin 12) (a : Fin 4) :
    (![b.val, r.val, 0, 0] : Fin 4 → ℕ) a + S1x1x1x2048.size a ≤ S2x12x1x2048.size a := by
  match a with
  | ⟨0, _⟩ => show b.val + 1 ≤ 2; omega
  | ⟨1, _⟩ => show r.val + 1 ≤ 12; omega
  | ⟨2, _⟩ => show 0 + 1 ≤ 1; omega
  | ⟨3, _⟩ => show 0 + 2048 ≤ 2048; omega

/-- The rows of batch `b` and step `r` lie in the output block. -/
theorem inb_out (b : Fin 2) (r : Fin 12) (a : Fin 4) :
    (![b.val, r.val, 0, 0] : Fin 4 → ℕ) a + S1x1x2048x96.size a ≤ S2x12x2048x96.size a := by
  match a with
  | ⟨0, _⟩ => show b.val + 1 ≤ 2; omega
  | ⟨1, _⟩ => show r.val + 1 ≤ 12; omega
  | ⟨2, _⟩ => show 0 + 2048 ≤ 2048; omega
  | ⟨3, _⟩ => show 0 + 96 ≤ 96; omega

/-- The body's 24 stores together leave the output block. -/
theorem block_eq (hT : ∀ b r n, (T b r n).toNat < 288) (hD : ∀ b r n, (D b r n).toNat < 7)
    (h0 : ∀ b r n, x0 (ix4 b r 0 n) = T b r n + D b r n <<< 9) (h1 : ∀ n e, x1 (ix2 n e) = tableN node n e)
    (h2 : ∀ k e, x2 (ix2 k e) = tableA tod k e) (h3 : ∀ k e, x3 (ix2 k e) = tableB tod dow k e) :
    out0_4 x0 x1 x2 x3 = blockOut node tod dow T D := by
  funext y
  have P := fun b r => piece x0 x1 x2 x3 node tod dow T D hT hD h0 h1 h2 h3 b r (inb_words b r) (inb_out b r)
  refine View.canon_apply_of_pieces (Val := Elt Ideal) (e := .f32) (blockOut node tod dow T D) _ ?_ y (cover0_4 _ _ _ _ _ _ _ _ _ _ _ _ _ _ _ _ _ _ _ _ _ _ _ _ y)
  repeat' refine List.forall_mem_cons.2 ⟨?_, ?_⟩
  · exact P 1 11
  · exact P 1 10
  · exact P 1 9
  · exact P 1 8
  · exact P 1 7
  · exact P 1 6
  · exact P 1 5
  · exact P 1 4
  · exact P 1 3
  · exact P 1 2
  · exact P 1 1
  · exact P 1 0
  · exact P 0 11
  · exact P 0 10
  · exact P 0 9
  · exact P 0 8
  · exact P 0 7
  · exact P 0 6
  · exact P 0 5
  · exact P 0 4
  · exact P 0 3
  · exact P 0 2
  · exact P 0 1
  · exact P 0 0
  · exact fun p hp => absurd hp List.not_mem_nil

end Cert.Proof.Block
end
-- ==== Proof.Tables.lean ====
/- What the kernel's four inputs hold when its grid starts: the packed index words and the three padded tables. -/
module

public import proofs.«01_k».proof.Proof.Gen.KernelIdeal.Value
public import proofs.«01_k».proof.Proof.Spec
public import Idealize.ShloMosaic.Lib.Pipeline.ValueKit
public import Idealize.ShloMosaic.Lib.Routing.OpsPair
public import Idealize.ShloMosaic.Lib.Routing.OpsSet

@[expose] public section

set_option maxRecDepth 16384

noncomputable section

namespace Cert.Proof.Tables

open Cert.KernelIdeal Cert.KernelIdeal.Gen Idealize.ShloMosaic Idealize.ShloMosaic.TcCoe Idealize.SL.Sem
open Cert.Proof.Spec

/-- A scatter that places one whole matrix inside another at row `r` and column `c`, read at an element: inside the
    placed rectangle the placed matrix, outside it the matrix placed into. -/
theorem scatter_box {A B P Q : ℕ} {si : Shape} (d : ScatterDims ⟨2, ![A, B]⟩ si ⟨2, ![P, Q]⟩)
    (x : (⟨2, ![A, B]⟩ : Shape).Idx → EReal) (idx : si.Idx → BitVec 32) (upd : (⟨2, ![P, Q]⟩ : Shape).Idx → EReal) (r c : ℕ)
    (h0 : ∀ k, d.start k idx 0 + (d.window k 0 : Int) = ((r + (k 0).val : ℕ) : Int))
    (h1 : ∀ k, d.start k idx 1 + (d.window k 1 : Int) = ((c + (k 1).val : ℕ) : Int)) (i : Fin A) (j : Fin B) :
    Host.scatter d (fun _ b => b) x idx upd (ix2 i j)
      = if h : (r ≤ i.val ∧ i.val < r + P) ∧ (c ≤ j.val ∧ j.val < c + Q)
        then upd (ix2 ⟨i.val - r, by omega⟩ ⟨j.val - c, by omega⟩) else x (ix2 i j) := by
  have land : ∀ k : (⟨2, ![P, Q]⟩ : Shape).Idx, d.resultIdx? k idx = some (ix2 i j) ↔ r + (k 0).val = i.val ∧ c + (k 1).val = j.val := by
    intro k
    rw [Routing.resultIdx?_eq_some]
    constructor
    · intro h
      have a0 := h 0
      have a1 := h 1
      rw [h0] at a0
      rw [h1] at a1
      exact ⟨by exact_mod_cast a0, by exact_mod_cast a1⟩
    · rintro ⟨a0, a1⟩ a
      match a with
      | ⟨0, _⟩ => exact (h0 k).trans (congrArg Nat.cast a0)
      | ⟨1, _⟩ => exact (h1 k).trans (congrArg Nat.cast a1)
  split
  · next h =>
    refine Routing.scatter_set_hit d x idx upd (ix2 i j) _ (fun k hk => ?_)
      (ix2 ⟨i.val - r, by omega⟩ ⟨j.val - c, by omega⟩) ?_
    · obtain ⟨a0, a1⟩ := (land k).1 hk
      rw [eq_ix2 k]
      congr 2 <;> apply Fin.ext <;> dsimp only <;> omega
    · exact (land _).2 ⟨by show r + (i.val - r) = i.val; omega, by show c + (j.val - c) = j.val; omega⟩
  · next h =>
    refine Routing.scatter_set_miss d x idx upd (ix2 i j) (fun k hk => h ?_)
    obtain ⟨a0, a1⟩ := (land k).1 hk
    have b0 : (k 0).val < P := (k 0).isLt
    have b1 : (k 1).val < Q := (k 1).isLt
    omega

/-- Narrowing a number's format changes no exact value. -/
theorem narrow_apply {s : Shape} (x : FVec Ideal s .f32) (h : FTy.bf16.bits < FTy.f32.bits) (i : s.Idx) :
    (truncf .bf16 x h i : EReal) = x i := rfl

variable (m : (ℓ : Loc nD τ sig) → Buf (Elt Ideal) ℓ)

/-- The first padded table. -/
theorem entry_tableA (c : Dev nD) (k : Fin 256) (e : Fin 96) :
    (V m c main_v18 : S256x96.Idx → EReal) (ix2 k e) = tableA (m ((c : Thread nD τ).loc main_arg2)) k e := by
  entry_read
  refine (narrow_apply _ _ _).trans ?_
  refine (scatter_box scatter_S256x96_S1_S256x32_01_n_1_0 _ _ _ 0 32 (fun k => ?_) (fun k => ?_) k e).trans ?_
  · show (0 : Int) + ((k 0).val : Int) = _
    omega
  · show (32 : Int) + ((k 1).val : Int) = _
    omega
  · unfold tableA
    pointwise

/-- The second padded table. -/
theorem entry_tableB (c : Dev nD) (k : Fin 40) (e : Fin 96) :
    (V m c main_v29 : S40x96.Idx → EReal) (ix2 k e)
      = tableB (m ((c : Thread nD τ).loc main_arg2)) (m ((c : Thread nD τ).loc main_arg3)) k e := by
  entry_read
  refine (narrow_apply _ _ _).trans ?_
  refine (scatter_box scatter_S40x96_S2_S7x32_01_n_01_0 _ _ _ 32 0 (fun k => ?_) (fun k => ?_) k e).trans ?_
  · show (32 : Int) + ((k 0).val : Int) = _
    omega
  · show (0 : Int) + ((k 1).val : Int) = _
    omega
  rw [scatter_box scatter_S40x96_S2_S32x32_01_n_01_0 _ _ _ 0 32 (fun k => ?_) (fun k => ?_) k e]
  rotate_left
  · show (0 : Int) + ((k 0).val : Int) = _
    omega
  · show (32 : Int) + ((k 1).val : Int) = _
    omega
  · unfold tableB
    pointwise

/-- The padded node table. -/
theorem entry_tableN (c : Dev nD) (n : Fin 2048) (e : Fin 96) :
    (V m c main_v32 : S2048x96.Idx → EReal) (ix2 n e) = tableN (m ((c : Thread nD τ).loc main_arg1)) n e := by
  entry_read
  refine (scatter_box scatter_S2048x96_S1_S2048x32_01_n_1_0 _ _ _ 0 64 (fun k => ?_) (fun k => ?_) n e).trans ?_
  · show (0 : Int) + ((k 0).val : Int) = _
    omega
  · show (64 : Int) + ((k 1).val : Int) = _
    omega
  · unfold tableN
    pointwise

/-- The packed index words: the time index plus the day index shifted left by nine. -/
theorem entry_pack (c : Dev nD) (b : Fin 64) (r : Fin 12) (n : Fin 2048) :
    (V m c main_v13 : S64x12x1x2048.Idx → BitVec 32) (ix4 b r 0 n)
      = word 0x43900000#32 ((m ((c : Thread nD τ).loc main_arg0) : S64x12x2048x3.Idx → EReal) (ix4 b r n 1))
        + word 0x40E00000#32 ((m ((c : Thread nD τ).loc main_arg0) : S64x12x2048x3.Idx → EReal) (ix4 b r n 2)) <<< 9 := by
  entry_read
  pointwise
  rfl

end Cert.Proof.Tables
end
-- ==== Proof.Fractions.lean ====
/- The two row numbers of the index words, when the input's channels are fractions. -/
module

public import proofs.«01_k».proof.Proof.Words
public import proofs.«01_k».proof.Proof.Spec

@[expose] public section

noncomputable section

namespace Cert.Proof.Fractions

open Idealize.ShloMosaic
open Cert.Proof.Spec

/-- The first constant is 288. -/
theorem c288 : Ideal.ofBits .f32 0x43900000#32 = (((288 : ℕ) : ℝ) : EReal) := by
  simp [Ideal.ofBits, Ideal.ieee, -EReal.coe_mul]; norm_num

/-- The second constant is 7. -/
theorem c7 : Ideal.ofBits .f32 0x40E00000#32 = (((7 : ℕ) : ℝ) : EReal) := by
  simp [Ideal.ofBits, Ideal.ieee, -EReal.coe_mul]; norm_num

/-- A fraction times 288, rounded toward zero, is a row number of the time table. -/
theorem word288 (x : EReal) (h0 : 0 ≤ x) (h1 : x < 1) : (word 0x43900000#32 x).toNat < 288 := by
  unfold word; rw [c288]; exact Words.toNat_fptosi_lt x 288 h0 h1 (by decide) (by decide)

/-- A fraction times 7, rounded toward zero, is a row number of the day table. -/
theorem word7 (x : EReal) (h0 : 0 ≤ x) (h1 : x < 1) : (word 0x40E00000#32 x).toNat < 7 := by
  unfold word; rw [c7]; exact Words.toNat_fptosi_lt x 7 h0 h1 (by decide) (by decide)

end Cert.Proof.Fractions
end
-- ==== Proof.Array.lean ====
/- The kernel's result array after its run, element by element. -/
module

public import proofs.«01_k».proof.Proof.Block
public import proofs.«01_k».proof.Proof.Tables
public import proofs.«01_k».proof.Proof.Fractions

@[expose] public section

set_option maxRecDepth 16384

noncomputable section

namespace Cert.Proof.Array

open Cert.KernelIdeal Cert.KernelIdeal.Gen Idealize.ShloMosaic Idealize.ShloMosaic.TcCoe Idealize.SL.Sem
open Idealize.ShloMosaic.Pipeline (Dat)
open Cert.Proof.Spec Cert.Proof.Fractions

variable (m : (ℓ : Loc nD τ sig) → Buf (Elt Ideal) ℓ)

/-- The blocks each grid point uses: batch pair number `t` of the packed words and of the output, the tables whole. -/
theorem idx : ∀ t : Fin cfg0.N, win0_0.index t = ![t.val, 0, 0, 0] ∧ win0_1.index t = ![0, 0] ∧ win0_2.index t = ![0, 0]
    ∧ win0_3.index t = ![0, 0] ∧ win0_4.index t = ![t.val, 0, 0, 0] :=
  (by decide +kernel : ∀ t : Fin grid0.N, win0_0.index t = ![t.val, 0, 0, 0] ∧ win0_1.index t = ![0, 0] ∧ win0_2.index t = ![0, 0]
    ∧ win0_3.index t = ![0, 0] ∧ win0_4.index t = ![t.val, 0, 0, 0])

/-- There are 32 grid points. -/
theorem pt_lt (t : Fin cfg0.N) : t.val < 32 := lt_of_lt_of_eq t.isLt N_0

/-- Batch `b` of the pair that grid point `t` works on. -/
def batch (t : Fin cfg0.N) (b : Fin 2) : Fin 64 := ⟨t.val * 2 + b.val, by have := pt_lt t; omega⟩

/-- The packed index words that point `t` reads. -/
theorem blk0 (c : Dev nD) (t : Fin cfg0.N) (b : Fin 2) (r : Fin 12) (n : Fin 2048) :
    (iblk m c 0 t : S2x12x1x2048.Idx → BitVec 32) (ix4 b r 0 n)
      = (V m c main_v13 : S64x12x1x2048.Idx → BitVec 32) (ix4 (batch t b) r 0 n) := by
  unfold batch
  blk_ext [iblk, idx t]

/-- Every point reads the whole node table. -/
theorem blk1 (c : Dev nD) (t : Fin cfg0.N) (n : Fin 2048) (e : Fin 96) :
    (iblk m c 1 t : S2048x96.Idx → EReal) (ix2 n e) = (V m c main_v32 : S2048x96.Idx → EReal) (ix2 n e) := by
  have h : win0_1.index t = ![0, 0] := (idx t).2.1
  have h0 := Pipeline.Window.rect_emb_val_of_index_zero win0_1 t 0 (by rw [h]; rfl) (ix2 n e)
  have h1 := Pipeline.Window.rect_emb_val_of_index_zero win0_1 t 1 (by rw [h]; rfl) (ix2 n e)
  unfold iblk
  generalize V m c = X
  have h2 : (win0_1.rect t).emb (ix2 n e) = ix2 n e :=
    funext fun a => Fin.ext (match a with | ⟨0, _⟩ => h0 | ⟨1, _⟩ => h1)
  exact congrArg (X main_v32) h2

/-- Every point reads the whole first one-hot table. -/
theorem blk2 (c : Dev nD) (t : Fin cfg0.N) (k : Fin 256) (e : Fin 96) :
    (iblk m c 2 t : S256x96.Idx → EReal) (ix2 k e) = (V m c main_v18 : S256x96.Idx → EReal) (ix2 k e) := by
  have h : win0_2.index t = ![0, 0] := (idx t).2.2.1
  have h0 := Pipeline.Window.rect_emb_val_of_index_zero win0_2 t 0 (by rw [h]; rfl) (ix2 k e)
  have h1 := Pipeline.Window.rect_emb_val_of_index_zero win0_2 t 1 (by rw [h]; rfl) (ix2 k e)
  unfold iblk
  generalize V m c = X
  have h2 : (win0_2.rect t).emb (ix2 k e) = ix2 k e :=
    funext fun a => Fin.ext (match a with | ⟨0, _⟩ => h0 | ⟨1, _⟩ => h1)
  exact congrArg (X main_v18) h2

/-- Every point reads the whole second one-hot table. -/
theorem blk3 (c : Dev nD) (t : Fin cfg0.N) (k : Fin 40) (e : Fin 96) :
    (iblk m c 3 t : S40x96.Idx → EReal) (ix2 k e) = (V m c main_v29 : S40x96.Idx → EReal) (ix2 k e) := by
  have h : win0_3.index t = ![0, 0] := (idx t).2.2.2.1
  have h0 := Pipeline.Window.rect_emb_val_of_index_zero win0_3 t 0 (by rw [h]; rfl) (ix2 k e)
  have h1 := Pipeline.Window.rect_emb_val_of_index_zero win0_3 t 1 (by rw [h]; rfl) (ix2 k e)
  unfold iblk
  generalize V m c = X
  have h2 : (win0_3.rect t).emb (ix2 k e) = ix2 k e :=
    funext fun a => Fin.ext (match a with | ⟨0, _⟩ => h0 | ⟨1, _⟩ => h1)
  exact congrArg (X main_v29) h2

/-- An element of the output block of point `t`, as an element of the result array. -/
theorem emb4 (t : Fin cfg0.N) (y : S2x12x2048x96.Idx) :
    (win0_4.rect t).emb y = ix4 (batch t (y 0)) (y 1) (y 2) (y 3) := by
  have h : win0_4.index t = ![t.val, 0, 0, 0] := (idx t).2.2.2.2
  have h0 := Pipeline.Window.rect_emb_val win0_4 t y 0 rfl
  have h1 := Pipeline.Window.rect_emb_val_of_index_zero win0_4 t 1 (by rw [h]; rfl) y
  have h2 := Pipeline.Window.rect_emb_val_of_index_zero win0_4 t 2 (by rw [h]; rfl) y
  have h3 := Pipeline.Window.rect_emb_val_of_index_zero win0_4 t 3 (by rw [h]; rfl) y
  rw [h] at h0
  exact funext fun a => Fin.ext (match a with | ⟨0, _⟩ => h0 | ⟨1, _⟩ => h1 | ⟨2, _⟩ => h2 | ⟨3, _⟩ => h3)

/-- When channels 1 and 2 of the input are fractions, the kernel's result array is the three embeddings side by side. -/
theorem arr (c : Dev nD)
    (hx : Frac (m ((c : Thread nD τ).loc main_arg0))) :
    (dats m 0 c).arrAt 4 cfg0.N = Spec.out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  refine (congrFun (Block.block_eq (iblk m c 0 t) (iblk m c 1 t) (iblk m c 2 t) (iblk m c 3 t)
    (m ((c : Thread nD τ).loc main_arg1)) (m ((c : Thread nD τ).loc main_arg2)) (m ((c : Thread nD τ).loc main_arg3))
    (fun b r n => word 0x43900000#32 ((m ((c : Thread nD τ).loc main_arg0) : S64x12x2048x3.Idx → EReal) (ix4 (batch t b) r n 1)))
    (fun b r n => word 0x40E00000#32 ((m ((c : Thread nD τ).loc main_arg0) : S64x12x2048x3.Idx → EReal) (ix4 (batch t b) r n 2)))
    (fun b r n => word288 _ (hx _ r n).1.1 (hx _ r n).1.2) (fun b r n => word7 _ (hx _ r n).2.1 (hx _ r n).2.2)
    (fun b r n => (blk0 m c t b r n).trans (Tables.entry_pack m c (batch t b) r n))
    (fun n e => (blk1 m c t n e).trans (Tables.entry_tableN m c n e))
    (fun k e => (blk2 m c t k e).trans (Tables.entry_tableA m c k e))
    (fun k e => (blk3 m c t k e).trans (Tables.entry_tableB m c k e))) y).trans ?_
  exact (congrArg (Spec.out (m ((c : Thread nD τ).loc main_arg0)) (m ((c : Thread nD τ).loc main_arg1)) (m ((c : Thread nD τ).loc main_arg2)) (m ((c : Thread nD τ).loc main_arg3))) (emb4 t y)).symm

end Cert.Proof.Array
end
-- ==== Proof.Reference.lean ====
/- The reference's result array, element by element. -/
module

public import proofs.«01_k».proof.Proof.Words
public import proofs.«01_k».proof.Proof.Fractions
public import proofs.«01_k».proof.Proof.Gen.ReferenceIdeal.Read
public import Idealize.ShloMosaic.Lib.ReduceAll
public import Idealize.ShloMosaic.Lib.WordCmp

@[expose] public section

noncomputable section

namespace Cert.Proof.Reference

open Cert.ReferenceIdeal Cert.ReferenceIdeal.Gen Cert.ReferenceIdeal.Read Idealize.ShloMosaic
open Cert.Proof.Spec Cert.Proof.Fractions

/-- A word that is not negative is kept by the wrap of negative indices. -/
theorem nowrap (w k : BitVec 32) (h : w.toNat < 2 ^ 31) : Scalar.select (IntOp.cmpi .slt w 0#32) k w = w := by
  rw [WordCmp.cmpi_slt_of_lt h (by decide)]
  exact ValueIdx.select_zero _ _

/-- A word below `n` passes the test for lying from 0 to `n - 1`. -/
theorem within (w : BitVec 32) (n : Nat) (hp : 0 < n) (hn : n < 2 ^ 31) (h : w.toNat < n) :
    IntOp.andi (IntOp.cmpi .sge w 0#32) (IntOp.cmpi .sle w (BitVec.ofNat 32 (n - 1))) = 1#1 := by
  have e : (BitVec.ofNat 32 (n - 1)).toNat = n - 1 := by
    rw [BitVec.toNat_ofNat]; exact Nat.mod_eq_of_lt (by omega)
  rw [WordCmp.cmpi_sge_of_lt (show w.toNat < 2 ^ 31 by omega) (by decide),
    WordCmp.cmpi_sle_of_lt (show w.toNat < 2 ^ 31 by omega) (by rw [e]; show n - 1 < 2 ^ 31; omega), e,
    decide_eq_true (show (0#32).toNat ≤ w.toNat from Nat.zero_le _), decide_eq_true (show w.toNat ≤ n - 1 by omega)]
  rfl

/-- A word below `n` is its own clamp to `n - 1` and its own remainder by `n`. -/
theorem clamp (w : BitVec 32) (n : Nat) (hn : n < 2 ^ 31) (h : w.toNat < n) : min w.toInt.toNat (n - 1) = w.toNat % n := by
  rw [BitVec.toInt_eq_toNat_of_lt (by omega), Int.toNat_natCast, Nat.mod_eq_of_lt h]
  omega

/-- A row of the table of 288 rows, read at a start index that is clamped to its last row. -/
theorem gather288 (x : S288x32.Idx → EReal) (idx : S64x12x2048x1.Idx → BitVec 32) (b : Fin 64) (r : Fin 12) (n : Fin 2048)
    (e : Fin 32) : Host.gather gather_S288x32_S64x12x2048x1_S64x12x2048x32_3_0_n_n_0_3_132 x idx (ix4 b r n e)
      = x (ix2 ⟨min (idx (ix4 b r n 0)).toInt.toNat 287, by omega⟩ e) := by
  refine congrArg x (funext fun a => Fin.ext ?_)
  match a with
  | ⟨0, _⟩ =>
    show min (idx _).toInt.toNat 287 + 0 + 0 = min (idx _).toInt.toNat 287
    refine congrArg (fun j => min (idx j).toInt.toNat 287) (funext fun a => Fin.ext ?_)
    match a with
    | ⟨0, _⟩ => rfl
    | ⟨1, _⟩ => rfl
    | ⟨2, _⟩ => rfl
    | ⟨3, _⟩ => rfl
  | ⟨1, _⟩ => show 0 + 0 + e.val = e.val; omega

/-- The row number of the table of 288 rows, from channel 1 of the input. -/
theorem word288 (x : S64x12x2048x3.Idx → EReal) (b : Fin 64) (r : Fin 12) (n : Fin 2048) :
    val_main_v4 (F := Ideal) x (ix3 b r n) = word 0x43900000#32 (x (ix4 b r n 1)) := by
  pointwise [val_main_v4, val_main_v3, val_main_v2, val_main_cst, val_main_v1, val_main_v0, word]
  rfl

/-- The start index read for the table of 288 rows is its row number. -/
theorem start288 (x : S64x12x2048x3.Idx → EReal) (hx : Frac x) (b : Fin 64) (r : Fin 12) (n : Fin 2048) (u : Fin 1) :
    val_main_call0_v5 (F := Ideal) x (ix4 b r n u) = word 0x43900000#32 (x (ix4 b r n 1)) := by
  rw [val_main_call0_v5_apply]
  have h : idx_main_call0_v5 (ix4 b r n u) = ix3 b r n := by
    funext a
    match a with
    | ⟨0, _⟩ => rfl
    | ⟨1, _⟩ => rfl
    | ⟨2, _⟩ => rfl
  rw [h, val_main_call0_v4_apply, val_main_call0_v1_apply, val_main_call0_v0_apply, val_main_call0_c_apply, word288]
  exact nowrap _ _ (lt_of_lt_of_le (Fractions.word288 _ (hx b r n).1.1 (hx b r n).1.2) (by decide))

/-- Every row number of the table of 288 rows passes the range test. -/
theorem pass288 (x : S64x12x2048x3.Idx → EReal) (hx : Frac x) (i : S64x12x2048.Idx) :
    val_main_call0_v12 (F := Ideal) x i = 1#1 := by
  refine Host.reduce_andi_one _ _ _ _ i rfl fun j => ?_
  obtain ⟨b, r, n, u, rfl⟩ : ∃ b r n u, j = ix4 b r n u := ⟨_, _, _, _, eq_ix4 j⟩
  rw [val_main_call0_v11_apply, val_main_call0_v7_apply, val_main_call0_v10_apply, start288 x hx, val_main_call0_v6_apply,
    val_main_call0_v9_apply, val_main_call0_v8_apply, val_main_call0_c_1_apply, val_main_call0_c_2_apply]
  exact within _ 288 (by decide) (by decide) (Fractions.word288 _ (hx b r n).1.1 (hx b r n).1.2)

/-- The lookup in the table of 288 rows reads the row of the row number. -/
theorem take288 (x : S64x12x2048x3.Idx → EReal) (w : S288x32.Idx → EReal) (hx : Frac x) (b : Fin 64) (r : Fin 12)
    (n : Fin 2048) (e : Fin 32) :
    val_main_v5 (F := Ideal) x w (ix4 b r n e) = w (ix2 (Fin.ofNat 288 (word 0x43900000#32 (x (ix4 b r n 1))).toNat) e) := by
  rw [val_main_v5_apply, val_main_call0_v14_apply, pass288 x hx, ValueIdx.select_one]
  unfold val_main_call0_v13
  rw [gather288]
  simp only [start288 x hx]
  refine congrArg (fun k => w (ix2 k e)) (Fin.ext ?_)
  exact clamp _ 288 (by decide) (Fractions.word288 _ (hx b r n).1.1 (hx b r n).1.2)

/-- A row of the table of 7 rows, read at a start index that is clamped to its last row. -/
theorem gather7 (x : S7x32.Idx → EReal) (idx : S64x12x2048x1.Idx → BitVec 32) (b : Fin 64) (r : Fin 12) (n : Fin 2048)
    (e : Fin 32) : Host.gather gather_S7x32_S64x12x2048x1_S64x12x2048x32_3_0_n_n_0_3_132 x idx (ix4 b r n e)
      = x (ix2 ⟨min (idx (ix4 b r n 0)).toInt.toNat 6, by omega⟩ e) := by
  refine congrArg x (funext fun a => Fin.ext ?_)
  match a with
  | ⟨0, _⟩ =>
    show min (idx _).toInt.toNat 6 + 0 + 0 = min (idx _).toInt.toNat 6
    refine congrArg (fun j => min (idx j).toInt.toNat 6) (funext fun a => Fin.ext ?_)
    match a with
    | ⟨0, _⟩ => rfl
    | ⟨1, _⟩ => rfl
    | ⟨2, _⟩ => rfl
    | ⟨3, _⟩ => rfl
  | ⟨1, _⟩ => show 0 + 0 + e.val = e.val; omega

/-- The row number of the table of 7 rows, from channel 2 of the input. -/
theorem word7 (x : S64x12x2048x3.Idx → EReal) (b : Fin 64) (r : Fin 12) (n : Fin 2048) :
    val_main_v11 (F := Ideal) x (ix3 b r n) = word 0x40E00000#32 (x (ix4 b r n 2)) := by
  pointwise [val_main_v11, val_main_v10, val_main_v9, val_main_cst_0, val_main_v8, val_main_v7, word]
  rfl

/-- The start index read for the table of 7 rows is its row number. -/
theorem start7 (x : S64x12x2048x3.Idx → EReal) (hx : Frac x) (b : Fin 64) (r : Fin 12) (n : Fin 2048) (u : Fin 1) :
    val_main_call1_v5 (F := Ideal) x (ix4 b r n u) = word 0x40E00000#32 (x (ix4 b r n 2)) := by
  rw [val_main_call1_v5_apply]
  have h : idx_main_call1_v5 (ix4 b r n u) = ix3 b r n := by
    funext a
    match a with
    | ⟨0, _⟩ => rfl
    | ⟨1, _⟩ => rfl
    | ⟨2, _⟩ => rfl
  rw [h, val_main_call1_v4_apply, val_main_call1_v1_apply, val_main_call1_v0_apply, val_main_call1_c_apply, word7]
  exact nowrap _ _ (lt_of_lt_of_le (Fractions.word7 _ (hx b r n).2.1 (hx b r n).2.2) (by decide))

/-- Every row number of the table of 7 rows passes the range test. -/
theorem pass7 (x : S64x12x2048x3.Idx → EReal) (hx : Frac x) (i : S64x12x2048.Idx) :
    val_main_call1_v12 (F := Ideal) x i = 1#1 := by
  refine Host.reduce_andi_one _ _ _ _ i rfl fun j => ?_
  obtain ⟨b, r, n, u, rfl⟩ : ∃ b r n u, j = ix4 b r n u := ⟨_, _, _, _, eq_ix4 j⟩
  rw [val_main_call1_v11_apply, val_main_call1_v7_apply, val_main_call1_v10_apply, start7 x hx, val_main_call1_v6_apply,
    val_main_call1_v9_apply, val_main_call1_v8_apply, val_main_call1_c_1_apply, val_main_call1_c_2_apply]
  exact within _ 7 (by decide) (by decide) (Fractions.word7 _ (hx b r n).2.1 (hx b r n).2.2)

/-- The lookup in the table of 7 rows reads the row of the row number. -/
theorem take7 (x : S64x12x2048x3.Idx → EReal) (w : S7x32.Idx → EReal) (hx : Frac x) (b : Fin 64) (r : Fin 12)
    (n : Fin 2048) (e : Fin 32) :
    val_main_v12 (F := Ideal) x w (ix4 b r n e) = w (ix2 (Fin.ofNat 7 (word 0x40E00000#32 (x (ix4 b r n 2))).toNat) e) := by
  rw [val_main_v12_apply, val_main_call1_v14_apply, pass7 x hx, ValueIdx.select_one]
  unfold val_main_call1_v13
  rw [gather7]
  simp only [start7 x hx]
  refine congrArg (fun k => w (ix2 k e)) (Fin.ext ?_)
  exact clamp _ 7 (by decide) (Fractions.word7 _ (hx b r n).2.1 (hx b r n).2.2)

/-- The reference's result array, when channels 1 and 2 of the input are fractions, is the three embeddings side by side. -/
theorem val (x : S64x12x2048x3.Idx → EReal) (node : S2048x32.Idx → EReal) (tod : S288x32.Idx → EReal) (dow : S7x32.Idx → EReal)
    (hx : Frac x) : val_main_v17 (F := Ideal) x node tod dow = Spec.out x node tod dow := by
  funext i
  obtain ⟨b, r, n, e, rfl⟩ : ∃ b r n e, i = ix4 b r n e := ⟨_, _, _, _, eq_ix4 i⟩
  show _ = outRow node tod dow (word 0x43900000#32 (x (ix4 b r n 1))) (word 0x40E00000#32 (x (ix4 b r n 2))) n e
  pointwise [val_main_v17, val_main_v16, val_main_v13, val_main_v6, val_main_v15, val_main_v14]
  simp only [take288 x tod hx, take7 x dow hx]
  unfold outRow
  split
  · rfl
  · split
    · rw [dif_pos (by omega)]
    · rw [dif_neg (by omega)]
      rfl

end Cert.Proof.Reference
end
-- ==== Proof.Precondition.lean ====
/- What the precondition says of the input's channels. -/
module

public import proofs.«01_k».proof.Pre_fractions
public import proofs.«01_k».proof.Proof.Spec
public import proofs.«01_k».proof.Proof.Words

@[expose] public section

noncomputable section

namespace Cert.Proof.Precondition

open Cert.Pre_fractions Idealize.ShloMosaic
open Cert.Proof.Spec

/-- The slice and the broadcast that the precondition uses have matching shapes. -/
theorem shapes : Cert.Pre_fractions.Facts := ⟨by decide, by decide⟩

/-- Both tests hold when their conjunction is true. -/
theorem both (p q : Prop) [Decidable p] [Decidable q]
    (h : IntOp.andi (BitVec.ofBool (decide p)) (BitVec.ofBool (decide q)) = 1#1) : p ∧ q := by
  by_cases hp : p <;> by_cases hq : q <;> simp_all [IntOp.andi]

/-- The precondition at one element: it is at least zero and below one. -/
theorem fn_apply [Cert.Pre_fractions.Facts] (x : S64x12x2048x3.Idx → EReal) (node : S2048x32.Idx → EReal)
    (tod : S288x32.Idx → EReal) (dow : S7x32.Idx → EReal) (b : Fin 64) (r : Fin 12) (n : Fin 2048) (k : Fin 2) :
    Cert.Pre_fractions.fn (F := Ideal) x node tod dow (ix4 b r n k)
      = IntOp.andi (BitVec.ofBool (decide (Ideal.ofBits .f32 0x00000000#32 ≤ x (ix4 b r n ⟨1 + k.val, by omega⟩))))
        (BitVec.ofBool (decide (x (ix4 b r n ⟨1 + k.val, by omega⟩) < Ideal.ofBits .f32 0x3F800000#32))) := by
  pointwise [Cert.Pre_fractions.fn]

/-- When the precondition is true everywhere, channels 1 and 2 of the input are fractions. -/
theorem frac [Cert.Pre_fractions.Facts] (x : S64x12x2048x3.Idx → EReal) (node : S2048x32.Idx → EReal)
    (tod : S288x32.Idx → EReal) (dow : S7x32.Idx → EReal)
    (h : Cert.Pre_fractions.fn (F := Ideal) x node tod dow = fun _ => 1#1) : Frac x := by
  have key : ∀ b r n (k : Fin 2), 0 ≤ x (ix4 b r n ⟨1 + k.val, by omega⟩) ∧ x (ix4 b r n ⟨1 + k.val, by omega⟩) < 1 := by
    intro b r n k
    have e := congrFun h (ix4 b r n k)
    rw [fn_apply, Ideal.ofBits_zero_f32, Ideal.ofBits_one_f32] at e
    exact both _ _ e
  exact fun b r n => ⟨key b r n 0, key b r n 1⟩

end Cert.Proof.Precondition
end
-- ==== Proof.lean ====
/- The proof of every claim of the certificate. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Reference
public import proofs.«01_k».proof.Proof.Precondition
public import Idealize.ShloMosaic.Adequacy
public import Idealize.ShloMosaic.Init

@[expose] public section

noncomputable section

namespace Cert.Proof

open Idealize.ShloMosaic Idealize.SL.Sem

/-- The reference runs to an end, leaves its arguments as they were and its counters at zero. -/
theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On inputs whose channels 1 and 2 are fractions, the kernel and the reference end with the same array. -/
theorem equal : @algebraic_KernelIdeal_ReferenceIdeal_pre_fractions Cert.KernelIdeal.Gen.facts Cert.ReferenceIdeal.Gen.facts
    Precondition.shapes := by
  haveI := Precondition.shapes
  intro m g m' g' hpre hargs
  have hx : ∀ c : Dev Cert.KernelIdeal.nD, Spec.Frac (m ((c.tc : Thread Cert.KernelIdeal.nD Cert.KernelIdeal.τ).loc Cert.KernelIdeal.main_arg0)) :=
    fun c => Precondition.frac _ _ _ _ (hpre c)
  refine ⟨fun c => Spec.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run Cert.KernelIdeal.defs _ _).mono (fun r h c => ⟨(h c).1.trans (Array.arr m c (hx c)), (h c).2⟩)
      (Cert.KernelIdeal.Value.run_blocks m g)
  · refine (θ_run Cert.ReferenceIdeal.defs _ _).mono (fun r h c => ⟨(h c).1.trans ?_, (h c).2⟩)
      (Cert.ReferenceIdeal.Value.run (F := Ideal) m' g')
    obtain ⟨h0, h1, h2, h3⟩ := hargs c
    rw [Cert.ReferenceIdeal.Read.val_main_v17_eq, h0, h1, h2, h3]
    exact Reference.val _ _ _ _ (hx c)

/-- The whole certificate. -/
theorem claim : Cert.Claim :=
  ⟨Cert.Kernel.Gen.facts, Cert.KernelIdeal.Gen.facts, Cert.ReferenceIdeal.Gen.facts, Precondition.shapes,
    fun m ρ _ => Cert.Kernel.Gen.frame m ρ, fun m ρ _ => Cert.KernelIdeal.Gen.frame m ρ,
    fun m ρ _ => Cert.KernelIdeal.Gen.frame m ρ, reference_quiescent, fun m ρ _ => reference_quiescent m ρ trivial, trivial, equal⟩

end Cert.Proof

end
